-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .ne main_v4 main_c_0
  let main_v6 : IVec S_ 1 := andi main_v2 main_v5
  let main_v7 : IVec S1 32 := (extractStridedSlice S1 ![1] · slices_S2_S1_1) main_arg1
  let main_v8 : IVec S_ 32 := shapeCast S_ main_v7 shapeCasts_S1_S_
  let main_v9 : IVec S1 32 := (extractStridedSlice S1 ![0] · slices_S2_S1_0) main_arg1
  let main_v10 : IVec S_ 32 := shapeCast S_ main_v9 shapeCasts_S1_S_
  let main_v11 : IVec S_ 1 := cmpi .slt main_v8 main_v10
  let main_v12 : IVec S_ 1 := andi main_v6 main_v11
  main_v12
-- ==== Pre_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .ne main_v4 main_c_0
  let main_v6 : IVec S_ 1 := andi main_v2 main_v5
  let main_v7 : IVec S1 32 := (extractStridedSlice S1 ![1] · slices_S2_S1_1) main_arg1
  let main_v8 : IVec S_ 32 := shapeCast S_ main_v7 shapeCasts_S1_S_
  let main_v9 : IVec S1 32 := (extractStridedSlice S1 ![0] · slices_S2_S1_0) main_arg1
  let main_v10 : IVec S_ 32 := shapeCast S_ main_v9 shapeCasts_S1_S_
  let main_v11 : IVec S_ 1 := cmpi .slt main_v8 main_v10
  let main_v12 : IVec S_ 1 := andi main_v6 main_v11
  main_v12
-- ==== Kernel.lean ====
abbrev S1x512x512 : Shape := ⟨3, ![1, 512, 512]⟩
abbrev S2 : Shape := ⟨1, ![2]⟩
abbrev S_ : Shape := ⟨0, ![]⟩
abbrev S1 : Shape := ⟨1, ![1]⟩

abbrev nBuf : Space → Nat
  | .hbm => 3
  | .vmem => 1
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v13 : BitVec 32 := Scalar.muli v2 c4_i32_5
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v26 : BitVec 32 := Scalar.muli v2 c4_i32_12
  let v27 : BitVec 32 := Scalar.addi c0_i32_13 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v28 : BitVec 32 := Scalar.muli v5 c2_i32_14
  let v29 : BitVec 32 := Scalar.addi v27 v28
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_11 v8
  let c1_i32_15 : BitVec 32 := 1#32
  let v30 : BitVec 32 := Scalar.muli v25 c1_i32_15
  let v31 : BitVec 32 := Scalar.addi v29 v30
  v31.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Protocol.lean ====
/-
The exchange protocol of the shuffle kernel, stated once for any float values.

Device `c`'s partner is the device next to it along the last mesh axis. Whether a device keeps its own block or
trades blocks with its partner is a table `stay`; partners agree on it. The two partners meet on the barrier
semaphore. A device that keeps its block then copies it into its own result. A device that trades hands its
result buffer to its partner through the barrier, and the partner's copy fills it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra: the pipeline's copy of the rounds library and the exchange's own -/

/-- The exchange's copy: one duty a cell, so the duty names are `Unit`. -/
abbrev UX : Type := URounds (GSem nD τ sig) Unit
/-- Both copies. -/
abbrev UU : Type := UR sig nD τ × UX

local notation "𝕄" => MT nD τ sig Unit (Elt F) ℕ UU ℕ

/-- Where the pipeline's copy sits, -/
abbrev EP : Emb (UR sig nD τ) (MT nD τ sig Unit (Elt F) ℕ UU ℕ) := embL
/-- and where the exchange's does. -/
abbrev EX : Emb UX (MT nD τ sig Unit (Elt F) ℕ UU ℕ) := embR

/-! ## Partners -/

set_option backward.proofsInPublic true in
/-- The partner of device `c`: the other device of its pair along the last mesh axis. -/
def peer (c : Dev nD) : Dev nD := ⟨4 * (c.val / 4) + 2 * ((c.val / 2) % 2) + 1 - c.val % 2, by
  have : c.val < 8 := c.isLt
  show _ < 8
  omega⟩

/-- Partners are mutual. -/
theorem peer_peer (c : Dev nD) : peer (peer c) = c := by revert c; decide

/-- Taking partners, as a permutation of the devices. -/
def pairing : Dev nD ≃ Dev nD := ⟨peer, peer, peer_peer, peer_peer⟩

/-- The signal is addressed to the partner, -/
theorem signal_to (c : Dev nD) : (⟨k0_dev1 c, k0_dev1_lt c⟩ : Dev nD) = peer c := Fin.ext (k0_dev1_eq c)
/-- and so is the transfer. -/
theorem send_to (c : Dev nD) : (⟨k0_dev2 c, k0_dev2_lt c⟩ : Dev nD) = peer c := Fin.ext (k0_dev2_eq c)

/-! ## Buffers and semaphore cells -/

/-- The staged block of `x`, -/
abbrev xM : Memref sig .tc .vmem S1x512x512 .f32 := Memref.whole cc0_stg0_0
/-- the staged copy of `pi`, -/
abbrev pM : Memref sig .tc .smem S2 .i32 := Memref.whole cc0_stg1_0
/-- the result. -/
abbrev oM : Memref sig .tc .hbm S1x512x512 .f32 := Memref.whole main_v1

/-- The barrier semaphore, which outlives the launch. -/
abbrev barS : Sem sig := (SemArray.scalar (sig.barrier 0 rfl) : Sems sig S_).sem

/-- The four cells of a device: barrier, departure, arrival, own copy. -/
abbrev csem : Fin 4 → SemLoc sig := fun
  | 0 => .reg barS | 1 => .dma cc0_scratch0.sem | 2 => .dma cc0_scratch1.sem | 3 => .dma cc0_scratch2.sem
/-- The three the kernel itself owns: departure, arrival, own copy. -/
abbrev osem : Fin 3 → SemLoc sig := fun
  | 0 => .dma cc0_scratch0.sem | 1 => .dma cc0_scratch1.sem | 2 => .dma cc0_scratch2.sem

/-- Cell `k` of device `c`. -/
abbrev cell (ck : Dev nD × Fin 4) : GSem nD τ sig := ((ck.1 : Thread nD τ), csem ck.2)
/-- The four by name. -/
abbrev barCell (c : Dev nD) : GSem nD τ sig := ((c : Thread nD τ), .reg barS)
abbrev sendCell (c : Dev nD) : GSem nD τ sig := ((c : Thread nD τ), .dma cc0_scratch0.sem)
abbrev recvCell (c : Dev nD) : GSem nD τ sig := ((c : Thread nD τ), .dma cc0_scratch1.sem)
abbrev copyCell (c : Dev nD) : GSem nD τ sig := ((c : Thread nD τ), .dma cc0_scratch2.sem)

/-- The units a copy of one block is worth. -/
abbrev N : ℕ := (oM : Memref sig .tc .hbm S1x512x512 .f32).view.dmaCredit
theorem N_pos : 0 < N := View.dmaCredit_pos _ (by decide)

/-- The contents of a block. -/
abbrev Block (F : FTy → Type) : Type := (cc0_stg0_0 : Ref sig .tc).ty.Contents (Elt F)

/-- Device `c` holds its result buffer at contents `f`, -/
def outPts (c : Dev nD) (f : Block F) : sProp 𝕄 :=
  (oM : Memref sig .tc .hbm S1x512x512 .f32).view.loc (c : Thread nD τ) ↦[(oM : Memref sig .tc .hbm S1x512x512 .f32).view.set]{fullShare} f
/-- its staged block at contents `f`. -/
def xPts (c : Dev nD) (f : Block F) : sProp 𝕄 :=
  (xM : Memref sig .tc .vmem S1x512x512 .f32).view.loc (c : Thread nD τ) ↦[(xM : Memref sig .tc .vmem S1x512x512 .f32).view.set]{fullShare} f

instance outPts_storable (c : Dev nD) (f : Block F) : BI.Storable (upEmb : UEmb _ 𝕄) (outPts c f) := by unfold outPts; infer_instance
instance xPts_storable (c : Dev nD) (f : Block F) : BI.Storable (upEmb : UEmb _ 𝕄) (xPts c f) := by unfold xPts; infer_instance

/-- Both are the whole buffers. -/
theorem outPts_eq (c : Dev nD) (f : Block F) : (outPts c f : sProp 𝕄) = (((c : Thread nD τ).loc main_v1) ↦{fullShare} f) := by
  unfold outPts; rw [View.set_whole]
theorem xPts_eq (c : Dev nD) (f : Block F) : (xPts c f : sProp 𝕄) = (((c : Thread nD τ).loc cc0_stg0_0) ↦{fullShare} f) := by
  unfold xPts; rw [View.set_whole]

/-- A copy of the staged block over a result buffer leaves exactly the block there. -/
theorem copied (fd fs : Block F) :
    (oM : Memref sig .tc .hbm S1x512x512 .f32).view.write (Elt F) fd ((xM : Memref sig .tc .vmem S1x512x512 .f32).view.read (Elt F) fs) Finset.univ = fs := by
  show (View.whole main_v1).write (Elt F) fd ((View.whole cc0_stg0_0).read (Elt F) fs) Finset.univ = fs
  rw [View.read_whole]
  exact View.write_whole_univ _ _ _

/-! ## The schedule -/

variable (stay : Dev nD → Bool) (x : Dev nD → Block F)

/-- What a device lends its partner through the barrier: its result buffer if it trades, nothing if it keeps. -/
def lent (c : Dev nD) : sProp 𝕄 := if stay c then iprop(emp) else iprop(∃ f : Block F, outPts c f)
/-- What it keeps for itself meanwhile. -/
def kept (c : Dev nD) : sProp 𝕄 := if stay c then iprop(∃ f : Block F, outPts c f) else iprop(emp)

/-- What device `c` ends with: its own block if it keeps, its partner's if it trades. -/
def res (c : Dev nD) : Block F := if stay c then x c else x (peer c)

/-- The cells with a duty: every barrier cell; of a device that keeps, its copy cell; of one that trades, its
    departure and arrival cells. -/
def Live (g : GSem nD τ sig) : Prop :=
  g.2 = .reg barS ∨ (g.2 = .dma cc0_scratch2.sem ∧ stay g.1.1 = true)
    ∨ ((g.2 = .dma cc0_scratch0.sem ∨ g.2 = .dma cc0_scratch1.sem) ∧ stay g.1.1 = false)

instance (g : GSem nD τ sig) : Decidable (Live stay g) := by unfold Live; infer_instance

/-- One round. The barrier's duty is worth one unit and hands over the partner's lent buffer; an arrival hands over
    the result holding the partner's block; a departure gives back the staged block; an own copy gives the
    result holding the device's own block and the staged block back. -/
def sched : Rounds.Schedule (GSem nD τ sig) Unit 𝕄 where
  duties g r := if r = 0 ∧ g.1.2 = .tc ∧ Live stay g then {()} else ∅
  unitless _ := False
  amount g _ _ := if g.2 = .reg barS then 1 else N
  payload g _ _ :=
    if g.2 = .reg barS then lent stay (peer g.1.1)
    else if g.2 = .dma cc0_scratch1.sem then outPts g.1.1 (x (peer g.1.1))
    else if g.2 = .dma cc0_scratch0.sem then xPts g.1.1 (x g.1.1)
    else iprop(outPts g.1.1 (x g.1.1) ∗ xPts g.1.1 (x g.1.1))
  amount_pos g _ _ _ := by
    split
    · exact Nat.one_pos
    · exact N_pos

instance lent_storable (c : Dev nD) : BI.Storable (upEmb : UEmb _ 𝕄) (lent (F := F) stay c) := by
  unfold lent; split <;> infer_instance

instance sched_storable (g : GSem nD τ sig) (r : ℕ) (d : Unit) : BI.Storable (upEmb : UEmb _ 𝕄) ((sched stay x).payload g r d) := by
  dsimp only [sched]
  (repeat' split) <;> infer_instance

/-- The four semaphores are different ones. -/
theorem send_ne_bar : (SemLoc.dma cc0_scratch0.sem : SemLoc sig) ≠ .reg barS := fun h => by cases h
theorem recv_ne_bar : (SemLoc.dma cc0_scratch1.sem : SemLoc sig) ≠ .reg barS := fun h => by cases h
theorem copy_ne_bar : (SemLoc.dma cc0_scratch2.sem : SemLoc sig) ≠ .reg barS := fun h => by cases h
theorem send_ne_recv : (SemLoc.dma cc0_scratch0.sem : SemLoc sig) ≠ .dma cc0_scratch1.sem := by decide
theorem copy_ne_recv : (SemLoc.dma cc0_scratch2.sem : SemLoc sig) ≠ .dma cc0_scratch1.sem := by decide
theorem copy_ne_send : (SemLoc.dma cc0_scratch2.sem : SemLoc sig) ≠ .dma cc0_scratch0.sem := by decide

/-- No cell has a duty after its first round. -/
theorem duties_after (g : GSem nD τ sig) (r : ℕ) (hr : 0 + 1 ≤ r) : (sched stay x).duties g r = ∅ :=
  if_neg fun h => by have := h.1; omega
/-- A cell with no duty has none at any round. -/
theorem duties_idle (g : GSem nD τ sig) (hg : ¬ Live stay g) (r : ℕ) (hr : 0 ≤ r) : (sched stay x).duties g r = ∅ :=
  if_neg fun h => hg h.2.2
/-- A cell with a duty has exactly the one in its first round. -/
theorem duties_live (c : Dev nD) (sm : SemLoc sig) (h : Live stay ((c : Thread nD τ), sm)) :
    (sched stay x).duties ((c : Thread nD τ), sm) 0 = {()} :=
  if_pos ⟨rfl, rfl, h⟩

theorem live_bar (c : Dev nD) : Live stay (barCell c) := .inl rfl
theorem live_send {c : Dev nD} (h : stay c = false) : Live stay (sendCell c) := .inr (.inr ⟨.inl rfl, h⟩)
theorem live_recv {c : Dev nD} (h : stay c = false) : Live stay (recvCell c) := .inr (.inr ⟨.inr rfl, h⟩)
theorem live_copy {c : Dev nD} (h : stay c = true) : Live stay (copyCell c) := .inr (.inl ⟨rfl, h⟩)
theorem idle_send {c : Dev nD} (h : stay c = true) : ¬ Live stay (sendCell c) := by
  rintro (e | ⟨e, -⟩ | ⟨-, e⟩)
  · exact send_ne_bar e
  · exact copy_ne_send e.symm
  · exact Bool.noConfusion (h.symm.trans e)
theorem idle_recv {c : Dev nD} (h : stay c = true) : ¬ Live stay (recvCell c) := by
  rintro (e | ⟨e, -⟩ | ⟨-, e⟩)
  · exact recv_ne_bar e
  · exact copy_ne_recv e.symm
  · exact Bool.noConfusion (h.symm.trans e)
theorem idle_copy {c : Dev nD} (h : stay c = false) : ¬ Live stay (copyCell c) := by
  rintro (e | ⟨-, e⟩ | ⟨e | e, -⟩)
  · exact copy_ne_bar e
  · exact Bool.noConfusion (h.symm.trans e)
  · exact copy_ne_send e
  · exact copy_ne_recv e

theorem amount_bar (c : Dev nD) : (sched stay x).amount (barCell c) 0 () = 1 := by
  dsimp only [sched]; exact if_pos rfl
/-- On every other cell the duty is worth a block. -/
theorem amount_dma (c : Dev nD) (q : DmaSem sig) : (sched stay x).amount ((c : Thread nD τ), .dma q) 0 () = N := by
  dsimp only [sched]; exact if_neg fun h => by cases h

/-- The units awaited in the first round, per cell with a duty. -/
theorem expect_live (c : Dev nD) (sm : SemLoc sig) (n : ℕ) (h : Live stay ((c : Thread nD τ), sm))
    (hn : (sched stay x).amount ((c : Thread nD τ), sm) 0 () = n) : 0 + n = (sched stay x).expect ((c : Thread nD τ), sm) 0 := by
  unfold Schedule.expect Schedule.amountOf
  rw [duties_live stay x c sm h, Finset.sum_singleton, hn, Nat.zero_add]

/-- What a whole first round pays is its one duty's payload. -/
theorem rest_live (c : Dev nD) (sm : SemLoc sig) (h : Live stay ((c : Thread nD τ), sm)) :
    bigSep ((sched stay x).duties ((c : Thread nD τ), sm) 0 \ ∅) (fun d => (sched stay x).payload ((c : Thread nD τ), sm) 0 d)
      = (sched stay x).payload ((c : Thread nD τ), sm) 0 () := by
  rw [Finset.sdiff_empty, duties_live stay x c sm h, bigSep_singleton]

theorem payload_bar (c : Dev nD) : (sched stay x).payload (barCell c) 0 () = lent stay (peer c) := by
  dsimp only [sched]; exact if_pos rfl
theorem payload_recv (c : Dev nD) : (sched stay x).payload (recvCell c) 0 () = outPts c (x (peer c)) := by
  dsimp only [sched]; rw [if_neg recv_ne_bar, if_pos rfl]
theorem payload_send (c : Dev nD) : (sched stay x).payload (sendCell c) 0 () = xPts c (x c) := by
  dsimp only [sched]; rw [if_neg send_ne_bar, if_neg send_ne_recv, if_pos rfl]
theorem payload_copy (c : Dev nD) : (sched stay x).payload (copyCell c) 0 () = iprop(outPts c (x c) ∗ xPts c (x c)) := by
  dsimp only [sched]; rw [if_neg copy_ne_bar, if_neg copy_ne_recv, if_neg copy_ne_send]

/-! ## What the devices owe, and the levels -/

/-- The units device `c` owes its partner's arrival cell. -/
def due (c : Dev nD) : ℕ := if stay c then 0 else N

/-- Owed past the signal: the partner's arrival; -/
def O₁ (c : Dev nD) : CellTallies nD τ sig Unit := tallyAt (recvCell (peer c)) () (due stay c)
/-- owed at launch: that, and a unit to the partner's barrier. -/
def O₀ (c : Dev nD) : CellTallies nD τ sig Unit := O₁ stay c + tallyAt (barCell (peer c)) () 1

/-- Every cell of a TensorCore has a level: barriers 1, arrivals 2, all others 0. -/
def L (g : GSem nD τ sig) : Finset Unit := if g.1.2 = .tc then {()} else ∅
def lv (g : GSem nD τ sig) (_ : Unit) : ℕ := if g.2 = .reg barS then 1 else if g.2 = .dma cc0_scratch1.sem then 2 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _

theorem lv_bar (c : Dev nD) : lv (barCell c) () = 1 := if_pos rfl
theorem lv_recv (c : Dev nD) : lv (recvCell c) () = 2 := by unfold lv; rw [if_neg recv_ne_bar, if_pos rfl]

/-- Past the signal only the partner's arrival cell is owed anything. -/
theorem O₁_pos {c : Dev nD} {g : GSem nD τ sig} {u : Unit} (h : 0 < O₁ stay c g u) : g = recvCell (peer c) := by
  unfold O₁ at h
  rw [tallyAt_apply] at h
  by_contra hn
  rw [if_neg fun e => hn e.1] at h
  exact Nat.lt_irrefl 0 h
/-- At launch, also the partner's barrier. -/
theorem O₀_pos {c : Dev nD} {g : GSem nD τ sig} {u : Unit} (h : 0 < O₀ stay c g u) : g = recvCell (peer c) ∨ g = barCell (peer c) := by
  unfold O₀ at h
  rw [Pi.add_apply, Finsupp.add_apply] at h
  by_contra hn
  rw [not_or] at hn
  have h1 : O₁ stay c g u = 0 := Nat.eq_zero_of_not_pos fun e => hn.1 (O₁_pos stay e)
  rw [h1, tallyAt_apply, if_neg fun e => hn.2 e.1] at h
  exact Nat.lt_irrefl 0 h

/-- Waiting on a cell of level 0 is allowed whatever is owed of the launch's debts. -/
theorem mayWait_low (c : Dev nD) (q : DmaSem sig) (hq : SemLoc.dma q ≠ .dma cc0_scratch1.sem) (O : CellTallies nD τ sig Unit)
    (hO : O = O₀ stay c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos stay hg with rfl | rfl <;> exact mem_L _ _ _)
      (fun p hp => by rw [Finset.mem_singleton.mp hp]; dsimp only [lv]; rw [if_neg (fun h => by cases h), if_neg hq])
      (fun g u hg => ?_)
    rcases O₀_pos stay hg with rfl | rfl
    · rw [lv_recv]; decide
    · rw [lv_bar]; decide
  · rw [MayWait_zero]; iintro -; iempintro

/-- Waiting on the barrier is allowed after the signal: what is then owed lies above it. -/
theorem mayWait_bar (c : Dev nD) : (levAts L lv : sProp 𝕄) ⊢ MayWait (c : Thread nD τ) (.reg barS) () (O₁ stay c) :=
  MayOwe.of_cut (L := L) (lev := lv) 1 (fun p hp => by rw [Finset.mem_singleton.mp hp]; exact mem_L _ _ _)
    (fun g u hg => by rw [O₁_pos stay hg]; exact mem_L _ _ _)
    (fun p hp => by rw [Finset.mem_singleton.mp hp]; exact (lv_bar c).le)
    (fun g u hg => by rw [O₁_pos stay hg, lv_recv]; decide)

/-! ## The ghost state a device starts from -/

/-- Known to everyone: every cell's invariant, at names `K`, and that its first round is reached. -/
def records (K : Dev nD × Fin 4 → ℕ) : sProp 𝕄 :=
  iprop((bigSep Finset.univ fun ck : Dev nD × Fin 4 => cellInv EX (sched stay x) (K ck) (cell ck))
    ∗ bigSep Finset.univ fun ck : Dev nD × Fin 4 => reached EX (cell ck) 0)

instance records_persistent (K : Dev nD × Fin 4 → ℕ) : BI.Persistent (records stay x K) := by unfold records; infer_instance

/-- One cell's invariant out of them, -/
theorem inv_of (K : Dev nD × Fin 4 → ℕ) (ck : Dev nD × Fin 4) : records stay x K ⊢ cellInv EX (sched stay x) (K ck) (cell ck) := by
  unfold records
  iintro ⟨H, -⟩
  iapply (show (bigSep Finset.univ fun ck : Dev nD × Fin 4 => (cellInv EX (sched stay x) (K ck) (cell ck) : sProp 𝕄)) ⊢ cellInv EX (sched stay x) (K ck) (cell ck) from
    bigSep_elim (Finset.mem_univ ck))
  iexact H
/-- and that its first round is reached. -/
theorem reached_of (K : Dev nD × Fin 4 → ℕ) (ck : Dev nD × Fin 4) : records stay x K ⊢ reached EX (cell ck) 0 := by
  unfold records
  iintro ⟨-, H⟩
  iapply (show (bigSep Finset.univ fun ck : Dev nD × Fin 4 => (reached EX (cell ck) 0 : sProp 𝕄)) ⊢ reached EX (cell ck) 0 from
    bigSep_elim (Finset.mem_univ ck))
  iexact H

/-- Its own position on its four cells, -/
def spots (c : Dev nD) : sProp 𝕄 :=
  iprop(atPos EX (barCell c) 0 ∅ 0 ∗ atPos EX (sendCell c) 0 ∅ 0 ∗ atPos EX (recvCell c) 0 ∅ 0 ∗ atPos EX (copyCell c) 0 ∅ 0)
/-- and the tokens of the duties it pays: the partner's barrier and arrival, its own departure and copy. -/
def dues (c : Dev nD) : sProp 𝕄 :=
  iprop(dutyTok EX (barCell (peer c)) 0 () ∗ dutyTok EX (sendCell c) 0 () ∗ dutyTok EX (recvCell (peer c)) 0 () ∗ dutyTok EX (copyCell c) 0 ())

/-- What device `c`'s body starts from: all that, its credit for the barrier and its arrival, and the levels. -/
def start (c : Dev nD) : sProp 𝕄 :=
  iprop((∃ K, records stay x K ∗ spots c ∗ dues c)
    ∗ cred (tallyAt (barCell c) () 1) ∗ cred (tallyAt (recvCell c) () (due stay (peer c))) ∗ levAts L lv)

end Cert.Shuffle

end
-- ==== Proof.Body.lean ====
/-
The body of the shuffle kernel on one device: it reads its word of `pi`, meets its partner on the barrier, and then
either copies its own block into its result or trades blocks with its partner.
-/
module

public import proofs.«01_k».proof.Proof.Protocol
public import proofs.«01_k».proof.Proof.Gen.KernelIdeal.Points

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the launch memory says -/

/-- The contents of a table. -/
abbrev Table (F : FTy → Type) : Type := (cc0_stg1_0 : Ref sig .tc).ty.Contents (Elt F)

/-- Device `c`'s block of `x`, as staged, -/
def xblk (c : Dev nD) : Block F := (win0_0.blk (0 : Fin 1)).view.read (Elt F) (m ((c : Thread nD τ).loc main_arg0))
/-- its copy of `pi`, as staged. -/
def tblk (c : Dev nD) : Table F := (win0_1.blk (0 : Fin 1)).view.read (Elt F) (m ((c : Thread nD τ).loc main_arg1))

/-- The place device `c` reads in its table, -/
abbrev spot (c : Dev nD) : Rect S2 := Rect.unit (s := S2) (k0_off1 c) S1.size (k0_off1_inb c)
/-- the word it finds there in a table `t`, -/
abbrev word (c : Dev nD) (t : Table F) : BitVec 32 :=
  ((pM : Memref sig .tc .smem S2 .i32).access (spot c) : View sig .tc _ _ _).read (Elt F) t (Shape.Idx.first (s := S1) (numel1_S1.symm ▸ Nat.one_pos))
/-- and its own coordinate along the last mesh axis. -/
abbrev own (c : Dev nD) : BitVec 32 := Scalar.remsi (Scalar.divsi (Dev.word c) 1#32) 2#32

/-- Device `c` keeps its block: its word of `pi` is its own coordinate. -/
def stay (c : Dev nD) : Bool := decide (word c (tblk m c) = own c)

/-- The flag computed from a comparison is set exactly when the comparison holds. -/
theorem flag (b : Bool) : Iff (Scalar.cmpi .ne (Scalar.extui (BitVec.ofBool b) : BitVec 32) 0#32 = 1#1) (b = true) := by
  revert b; decide

theorem flag_eq (a b : BitVec 32) : Iff (Scalar.cmpi .ne (Scalar.extui (Scalar.cmpi .eq a b) : BitVec 32) 0#32 = 1#1) (a = b) :=
  (flag (a == b)).trans beq_iff_eq
theorem flag_ne (a b : BitVec 32) : Iff (Scalar.cmpi .ne (Scalar.extui (Scalar.cmpi .ne a b) : BitVec 32) 0#32 = 1#1) (a ≠ b) :=
  (flag (a != b)).trans bne_iff_ne

/-! ## The pipeline's proof data -/

/-- Before the point: the exchange's ghost state and the result buffer at some contents. -/
def Φ₀ (c : Dev nD) : sProp 𝕄 := iprop(start (stay m) (xblk m) c ∗ ∃ f : Block F, outPts c f)
/-- After it: the result, and the four cells closed. -/
def Φ₁ (c : Dev nD) : sProp 𝕄 :=
  iprop(outPts c (res (stay m) (xblk m) c) ∗ semVal (barCell c) 0 ∗ semVal (sendCell c) 0 ∗ semVal (recvCell c) 0 ∗ semVal (copyCell c) 0)

/-- The pipeline's data: both windows are only read. -/
def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => tblk m c
  Φ t := match t with
    | ⟨0, _⟩ => Φ₀ m c
    | ⟨_ + 1, _⟩ => Φ₁ m c
  q _ := fullShare
  owed t := match t with
    | ⟨0, _⟩ => O₀ (stay m) c
    | ⟨_ + 1, _⟩ => 0

/-- A whole staging buffer owned at contents `v`. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

theorem owns_whole (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-- The result buffer is split into what is lent and what is kept, -/
theorem split_out (c : Dev nD) : iprop(∃ f : Block F, outPts c f) ⊢ (iprop(lent (stay m) c ∗ kept (stay m) c) : sProp 𝕄) := by
  unfold lent kept
  cases stay m c
  · rw [if_neg Bool.false_ne_true, if_neg Bool.false_ne_true]
    iintro H
    isplitl [H]; · iexact H
    iempintro
  · rw [if_pos rfl, if_pos rfl]
    iintro H
    isplitr; · iempintro
    iexact H

/-! ## The two ways on from the barrier -/

section Ways

variable (K : Dev nD × Fin 4 → ℕ) (c : Dev nD)

/-- Device `c`'s wait on a DMA cell `sm = csem i` with a duty: it comes back with the duty's payload and the cell closed. -/
theorem wait_close {α : Type} {Q : α → sProp 𝕄} {k : PUnit → Prog (TpuEff nD τ sig (Elt F) Λ₀ (c : Thread nD τ).2) α} (i : Fin 4) (q : DmaSem sig) (hq : csem i = .dma q) (hl : Live (stay m) ((c : Thread nD τ), .dma q))
    {sp sp' : Space} {κ' : Kind} {s s' : Shape} {e e' : EltTy} {srcw : Memref sig (c : Thread nD τ).2.kind sp' s' e'} {dstw : Memref sig κ' sp s e}
    {hsrc : srcw.view.WordExact} {hdst : dstw.view.WordExact} (hN : dstw.view.dmaCredit = N) (W : Waits sig Unit) :
    iprop(records (stay m) (xblk m) K ∗ cred (tallyAt ((c : Thread nD τ), .dma q) () N) ∗ owes (c : Thread nD τ) 0 W
        ∗ atPos EX ((c : Thread nD τ), .dma q) 0 ∅ 0)
      ⊢ iprop((((sched (stay m) (xblk m)).payload ((c : Thread nD τ), .dma q) 0 () ∗ semVal ((c : Thread nD τ), .dma q) 0
            ∗ owes (c : Thread nD τ) 0 (insert (SemLoc.dma q, ()) W)) -∗ wp frame (wpE (defs₀ (F := F)) Variants.none (c : Thread nD τ) none) Set.univ (k ⟨⟩) Q)
          -∗ wp frame (wpE (defs₀ (F := F)) Variants.none (c : Thread nD τ) none) Set.univ (.op (.waitDma2 q srcw dstw hsrc hdst) k) Q) := by
  have hI := inv_of (stay m) (xblk m) K (c, i)
  rw [show cell (c, i) = ((c : Thread nD τ), SemLoc.dma q) from congrArg (Prod.mk _) hq] at hI
  have hex : 0 + dstw.view.dmaCredit = (sched (stay m) (xblk m)).expect ((c : Thread nD τ), .dma q) 0 :=
    hN ▸ expect_live (stay m) (xblk m) c (.dma q) N hl (amount_dma (stay m) (xblk m) c q)
  have hcr : (cred (tallyAt ((c : Thread nD τ), .dma q) () N) : sProp 𝕄) = cred (tallyAt ((c : Thread nD τ), .dma q) () dstw.view.dmaCredit) := by
    rw [hN]
  iintro ⟨#HR, Hc, HO, Hat⟩ Hk
  iapply (Rounds.wp_wait_rest_token Variants.none EX (sched (stay m) (xblk m)) (c : Thread nD τ) none (κ := K (c, i))
      (wpE_waitDma2_eq Variants.none (c : Thread nD τ) none Set.univ) (Set.mem_univ _) () (O := 0) (W := W) (R := 0) (m := 0) (T := ∅) hex) $$ [Hc HO Hat]
  · isplitr; · iapply hI; iexact HR
    isplitl [Hc]; · iapply (Entails.of_eq hcr); iexact Hc
    isplitl [HO]; · iexact HO
    isplitr; · rw [MayWait_zero]; iempintro
    iexact Hat
  iintro ⟨HO, Hat, -, Hpay⟩
  imod (Rounds.cell_close EX (sched (stay m) (xblk m)) (Set.mem_univ (K (c, i))) (fun h => h) (R := 0 + 1)
      (duties_after (stay m) (xblk m) ((c : Thread nD τ), .dma q))) $$ [Hat] with Hz
  · isplitr; · iapply hI; iexact HR
    iexact Hat
  iapply Hk
  isplitl [Hpay]; · iapply (Entails.of_eq (rest_live (stay m) (xblk m) c (.dma q) hl)); iexact Hpay
  isplitl [Hz]; · iexact Hz
  iexact HO

/-- A cell without a duty closes at once. -/
theorem close_idle (i : Fin 4) (hl : ¬ Live (stay m) (cell (c, i))) :
    iprop(records (stay m) (xblk m) K ∗ atPos EX (cell (c, i)) 0 ∅ 0) ⊢ (|={Set.univ}=> semVal (cell (c, i)) 0 : sProp 𝕄) := by
  iintro ⟨#HR, Hat⟩
  imod (Rounds.cell_close EX (sched (stay m) (xblk m)) (Set.mem_univ (K (c, i))) (fun h => h) (R := 0)
      (duties_idle (stay m) (xblk m) (cell (c, i)) hl)) $$ [Hat] with Hz
  · isplitr; · iapply (inv_of (stay m) (xblk m) K (c, i)); iexact HR
    iexact Hat
  imodintro
  iexact Hz

/-- The copy of a device that keeps its block, from its staged block into its own result. -/
theorem copy_step {α : Type} {Q : α → sProp 𝕄} {k : PUnit → Prog (TpuEff nD τ sig (Elt F) Λ₀ .tc) α} (hs : stay m c = true) (f : Block F)
    {hsrc : (xM : Memref sig .tc .vmem S1x512x512 .f32).view.WordExact} {hdst : (oM : Memref sig .tc .hbm S1x512x512 .f32).view.WordExact}
    {hsem : (DmaTarget.here oM : DmaTarget nD τ sig .tc .hbm S1x512x512 .f32).Typed .vmem (.dma cc0_scratch2.sem)} :
    iprop(records (stay m) (xblk m) K ∗ xPts c (xblk m c) ∗ outPts c f ∗ dutyTok EX (copyCell c) 0 ())
      ⊢ iprop((cred (tallyAt (copyCell c) () N) -∗ wp frame (wpE (defs₀ (F := F)) Variants.none (c : Thread nD τ) none) Set.univ (k ⟨⟩) Q)
          -∗ wp frame (wpE (defs₀ (F := F)) Variants.none (c : Thread nD τ) none) Set.univ
              (.op (.enqueueDma xM (.here oM) (.dma cc0_scratch2.sem) hsrc hdst hsem) k) Q) := by
  have hpay := payload_copy (stay m) (xblk m) c
  unfold xPts outPts at hpay
  unfold xPts outPts
  iintro ⟨#HR, Hx, Ho, Ht⟩ Hk
  iapply (Rounds.wp_copy_pointsTo Variants.none EX (sched (stay m) (xblk m)) (c : Thread nD τ) none (κ := K (c, 3)) (r := 0) (d := ()) (fd := f)
      (by rw [duties_live (stay m) (xblk m) c _ (live_copy (stay m) hs)]; exact Finset.mem_singleton_self _)
      () N rfl (amount_dma (stay m) (xblk m) c _) (by rw [hpay, copied])) $$ [Hx Ho Ht]
  · isplitr; · iapply (inv_of (stay m) (xblk m) K (c, 3)); iexact HR
    isplitl [Hx]; · iexact Hx
    isplitl [Ho]; · iexact Ho
    isplitl [Ht]; · iexact Ht
    iapply (reached_of (stay m) (xblk m) K (c, 3)); iexact HR
  iexact Hk

/-- The transfer of a device that trades, from its staged block into its partner's result. -/
theorem send_step {α : Type} {Q : α → sProp 𝕄} {k : PUnit → Prog (TpuEff nD τ sig (Elt F) Λ₀ .tc) α} (hs : stay m c = false) (hp : stay m (peer c) = false)
    (f : Block F) (n : Dev nD) (hn : n = peer c) {hsc : (oM : Memref sig (Dev.tc n : Thread nD τ).2.kind .hbm S1x512x512 .f32).view.ref.isScScratch = false}
    {hsrc : (xM : Memref sig .tc .vmem S1x512x512 .f32).view.WordExact} {hdst : (oM : Memref sig .tc .hbm S1x512x512 .f32).view.WordExact}
    {hsem : DmaTarget.Typed .vmem (.dma cc0_scratch1.sem) (.remote (Dev.tc n : Thread nD τ) (oM : Memref sig .tc .hbm S1x512x512 .f32) (.dma cc0_scratch0.sem) hsc)}
    (W : Waits sig Unit) :
    iprop(records (stay m) (xblk m) K ∗ xPts c (xblk m c) ∗ outPts (peer c) f ∗ owes (c : Thread nD τ) (O₁ (stay m) c) W
        ∗ dutyTok EX (sendCell c) 0 () ∗ dutyTok EX (recvCell (peer c)) 0 ())
      ⊢ iprop(((cred (tallyAt (sendCell c) () N) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma xM (.remote (Dev.tc n : Thread nD τ) oM (.dma cc0_scratch0.sem) hsc) (.dma cc0_scratch1.sem) hsrc hdst hsem) k) Q) := by
  subst hn
  have hp₁ := payload_send (stay m) (xblk m) c
  have hp₂ := payload_recv (stay m) (xblk m) (peer c)
  rw [peer_peer] at hp₂
  unfold xPts at hp₁
  unfold outPts at hp₂
  unfold xPts outPts
  iintro ⟨#HR, Hx, Ho, HO, HtS, HtV⟩ Hk
  iapply (Rounds.wp_send_pointsTo Variants.none EX (sched (stay m) (xblk m)) (c : Thread nD τ) none (κ₁ := K (c, 1)) (κ₂ := K (peer c, 2))
      (r₁ := 0) (r₂ := 0) (d₁ := ()) (d₂ := ()) (fd := f)
      (by rw [duties_live (stay m) (xblk m) c _ (live_send (stay m) hs)]; exact Finset.mem_singleton_self _)
      (by rw [duties_live (stay m) (xblk m) (peer c) _ (live_recv (stay m) hp)]; exact Finset.mem_singleton_self _)
      () () N rfl (amount_dma (stay m) (xblk m) c _) (amount_dma (stay m) (xblk m) (peer c) _) 0
      (O₀ := O₁ (stay m) c) (by unfold O₁ due; rw [hs, zero_add]; rfl) (W := W)
      (by rw [hp₁]) (by rw [hp₂, copied])) $$ [Hx Ho HO HtS HtV]
  · isplitr; · iapply (inv_of (stay m) (xblk m) K (c, 1)); iexact HR
    isplitr; · iapply (inv_of (stay m) (xblk m) K (peer c, 2)); iexact HR
    isplitl [Hx]; · iexact Hx
    isplitl [Ho]; · iexact Ho
    isplitl [HO]; · iexact HO
    isplitl [HtS]; · iexact HtS
    isplitr; · iapply (reached_of (stay m) (xblk m) K (c, 1)); iexact HR
    isplitl [HtV]; · iexact HtV
    iapply (reached_of (stay m) (xblk m) K (peer c, 2)); iexact HR
  iexact Hk

/-- A copy into the staged block is worth as much as one into the result. -/
theorem credit_x : (xM : Memref sig .tc .vmem S1x512x512 .f32).view.dmaCredit = N := by decide +kernel
theorem credit_o : (oM : Memref sig .tc .hbm S1x512x512 .f32).view.dmaCredit = N := rfl

end Ways

/-! ## The body -/

/-- The kernel on the windows' staging buffers and the result. -/
abbrev prog : Prog (TpuEff nD τ sig (Elt F) Λ₀ .tc) PUnit :=
  cc0_body xM (Memref.isWhole_whole _) pM (Memref.isWhole_whole _) oM (Memref.isWhole_whole _) cc0_scratch0 cc0_scratch1 cc0_scratch2

/-- What the body is run from, -/
def bodyPre (c : Dev nD) : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
/-- and what it leaves. -/
def bodyPost (c : Dev nD) : sProp 𝕄 :=
  iprop(Φ₁ m c ∗ (dats m 0 c).owesAt () t0_0.succ ∗ stg c cc0_stg0_0 (xblk m c) ∗ stg c cc0_stg1_0 (tblk m c))

/-- The parts in hand at the body's end make up what it leaves. -/
theorem finish (c : Dev nD) (W : Waits sig Unit) :
    iprop(outPts c (res (stay m) (xblk m) c) ∗ xPts c (xblk m c)
        ∗ (((c : Thread nD τ).loc cc0_stg1_0) ↦{fullShare} tblk m c) ∗ owes (c : Thread nD τ) 0 W
        ∗ semVal (barCell c) 0 ∗ semVal (sendCell c) 0 ∗ semVal (recvCell c) 0 ∗ semVal (copyCell c) 0)
      ⊢ bodyPost m c := by
  rw [xPts_eq]
  unfold bodyPost Φ₁ Dat.owesAt Pipeline.owesWithin
  rw [show (dats m 0 c).owed t0_0.succ = 0 from rfl]
  iintro ⟨Ho, Hx, Ht, HO, Hz⟩
  isplitl [Ho Hz]
  · isplitl [Ho] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ht

set_option maxHeartbeats 800000 in
/-- The body run from what it starts from leaves what it should, given that partners agree on keeping. -/
theorem sound_body (c : Dev nD) (hag : stay m (peer c) = stay m c) (Q : PUnit → sProp 𝕄) :
    iprop(bodyPre m c ∗ (bodyPost m c -∗ Q ⟨⟩)) ⊢ wp frame (wpE (defs₀ (F := F)) Variants.none c none) Set.univ prog Q := by
  unfold prog
  simp only [cc0_body_eq_skeleton]; unfold cc0_body_skel
  simp only [semSignalWord, semWaitWord, smemLoad, Prog.lift, Prog.bind_op, Prog.bind_ret, Prog.pure_eq_ret, Prog.bind_assoc, wp_deviceId]
  unfold bodyPre Φ₀ start spots dues
  iintro ⟨⟨⟨⟨⟨%K, #HR, ⟨HatB, HatS, HatV, HatC⟩, HtB, HtS, HtV, HtC⟩, HcB, HcV, #Hlev⟩, Hout⟩,
    Ho, ⟨%d0, %g0, %hg0, Hx⟩, ⟨%d1, %g1, %hg1, Ht⟩⟩, Hk⟩
  have hx : g0 = xblk m c := by rw [hg0]; unfold Dat.before; rw [if_pos (fetch0_0 t0_0)]; rfl
  subst hx
  have ht : g1 = tblk m c := by rw [hg1]; unfold Dat.before; rw [if_pos (fetch0_1 t0_0)]; rfl
  subst ht
  unfold Dat.owesAt Pipeline.owesWithin
  icases Ho with ⟨%W, %hW, HO⟩
  rw [show (dats m 0 c).owed t0_0.castSucc = O₀ (stay m) c from rfl]
  -- the word of `pi`
  iapply (wp_load_rect Variants.none (c : Thread nD τ) none Set.univ (m := pM) (r := spot c) (Finset.subset_univ _)) $$ Ht; iintro Ht
  -- the signal, with what is lent
  ihave Hout := (split_out m c) $$ Hout
  icases Hout with ⟨Hlent, Hkept⟩
  simp only [signal_to c]
  iapply (Rounds.wp_signal Variants.none EX (sched (stay m) (xblk m)) (c : Thread nD τ) none (dst := (peer c : Thread nD τ)) (κ := K (peer c, 0))
      (d := ()) (by rw [duties_live (stay m) (xblk m) (peer c) _ (live_bar (stay m) _)]; exact Finset.mem_singleton_self _)
      ((amount_bar (stay m) (xblk m) (peer c)).trans (by decide)) () (O₁ (stay m) c) rfl) $$ [HO HtB Hlent]
  · isplitr; · iapply (inv_of (stay m) (xblk m) K (peer c, 0)); iexact HR
    isplitl [HO]; · iexact HO
    isplitl [HtB]; · iexact HtB
    isplitl [Hlent]; · rw [payload_bar, peer_peer]; iexact Hlent
    iapply (reached_of (stay m) (xblk m) K (peer c, 0)); iexact HR
  iintro HO
  -- the wait, with what the partner lends
  iapply (Rounds.wp_wait_rest_token Variants.none EX (sched (stay m) (xblk m)) (c : Thread nD τ) none (κ := K (c, 0))
      (wpE_semWait_eq Variants.none (c : Thread nD τ) none Set.univ) (Set.mem_univ _) () (O := O₁ (stay m) c) (W := W) (R := 0) (m := 0) (T := ∅)
      (expect_live (stay m) (xblk m) c _ _ (live_bar (stay m) c) (amount_bar (stay m) (xblk m) c))) $$ [HcB HO HatB]
  · isplitr; · iapply (inv_of (stay m) (xblk m) K (c, 0)); iexact HR
    isplitl [HcB]; · iexact HcB
    isplitl [HO]; · iexact HO
    isplitr; · iapply (mayWait_bar (stay m) c); iexact Hlev
    iexact HatB
  iintro ⟨HO, HatB, -, Hpay⟩
  ihave Hgot := (Entails.of_eq ((rest_live (stay m) (xblk m) c _ (live_bar (stay m) c)).trans (payload_bar (stay m) (xblk m) c))) $$ Hpay
  imod (Rounds.cell_close EX (sched (stay m) (xblk m)) (Set.mem_univ (K (c, 0))) (fun h => h) (R := 0 + 1)
      (duties_after (stay m) (xblk m) (barCell c))) $$ [HatB] with HzB
  · isplitr; · iapply (inv_of (stay m) (xblk m) K (c, 0)); iexact HR
    iexact HatB
  ihave Hx := (Entails.of_eq (xPts_eq c (xblk m c)).symm) $$ Hx
  cases hs : stay m c
  · -- it trades
    have hw : ¬ word c (tblk m c) = own c := of_decide_eq_false hs
    have hp : stay m (peer c) = false := hag.trans hs
    rw [if_neg fun e => hw ((flag_eq _ _).mp e), if_pos ((flag_ne _ _).mpr hw)]
    simp only [Prog.bind_op, Prog.bind_ret, Prog.bind_assoc]
    ihave Hgot := (Entails.of_eq (show (lent (stay m) (peer c) : sProp 𝕄) = iprop(∃ f : Block F, outPts (peer c) f) from by unfold lent; rw [hp]; exact if_neg Bool.false_ne_true)) $$ Hgot
    icases Hgot with ⟨%f, Hgot⟩
    iapply (send_step m K c hs hp f _ (send_to c) (insert (SemLoc.reg barS, ()) W)) $$ [Hx Hgot HO HtS HtV]
    · isplitr; · iexact HR
      isplitl [Hx]; · iexact Hx
      isplitl [Hgot]; · iexact Hgot
      isplitl [HO]; · iexact HO
      isplitl [HtS] <;> iassumption
    iintro ⟨HcS, HO⟩
    iapply (wait_close m K c 1 _ rfl (live_send (stay m) hs) (dstw := xM) credit_x (insert (SemLoc.reg barS, ()) W)) $$ [HcS HO HatS]
    · isplitr; · iexact HR
      isplitl [HcS]; · iexact HcS
      isplitl [HO] <;> iassumption
    iintro ⟨Hx, HzS, HO⟩
    iapply (wait_close m K c 2 _ rfl (live_recv (stay m) hs) (dstw := oM) credit_o _) $$ [HcV HO HatV]
    · isplitr; · iexact HR
      isplitl [HcV]; · unfold due; rw [hp]; iexact HcV
      isplitl [HO] <;> iassumption
    iintro ⟨Hout, HzV, HO⟩
    imod (close_idle m K c 3 (idle_copy (stay m) hs)) $$ [HatC] with HzC
    · isplitr; · iexact HR
      iexact HatC
    rw [wp_ret]; imodintro
    iapply Hk
    iapply (finish m c _)
    isplitl [Hout]; · unfold res; rw [hs, if_neg Bool.false_ne_true, ← payload_recv (stay m)]; iexact Hout
    isplitl [Hx]; · rw [← payload_send (stay m)]; iexact Hx
    isplitl [Ht]; · iexact Ht
    isplitl [HO]; · iexact HO
    isplitl [HzB]; · iexact HzB
    isplitl [HzS]; · iexact HzS
    isplitl [HzV] <;> iassumption
  · -- it keeps
    have hw : word c (tblk m c) = own c := of_decide_eq_true hs
    rw [if_pos ((flag_eq _ _).mpr hw)]
    simp only [Prog.bind_op, Prog.bind_ret, Prog.bind_assoc]
    ihave Hkept := (Entails.of_eq (show (kept (stay m) c : sProp 𝕄) = iprop(∃ f : Block F, outPts c f) from by unfold kept; rw [hs]; exact if_pos rfl)) $$ Hkept
    icases Hkept with ⟨%f, Hout⟩
    iapply (copy_step m K c hs f) $$ [Hx Hout HtC]
    · isplitr; · iexact HR
      isplitl [Hx]; · iexact Hx
      isplitl [Hout] <;> iassumption
    iintro HcC
    have hO : O₁ (stay m) c = 0 := by unfold O₁ due; rw [hs, if_pos rfl, tallyAt_zero]
    rw [hO]
    iapply (wait_close m K c 3 _ rfl (live_copy (stay m) hs) (dstw := oM) credit_o (insert (SemLoc.reg barS, ()) W)) $$ [HcC HO HatC]
    · isplitr; · iexact HR
      isplitl [HcC]; · iexact HcC
      isplitl [HO] <;> iassumption
    iintro ⟨Hpay, HzC, HO⟩
    ihave Hpay := (Entails.of_eq (payload_copy (stay m) (xblk m) c)) $$ Hpay
    icases Hpay with ⟨Hout, Hx⟩
    imod (close_idle m K c 1 (idle_send (stay m) hs)) $$ [HatS] with HzS
    · isplitr; · iexact HR
      iexact HatS
    imod (close_idle m K c 2 (idle_recv (stay m) hs)) $$ [HatV] with HzV
    · isplitr; · iexact HR
      iexact HatV
    rw [if_neg fun e => (flag_ne _ _).mp e hw]
    simp only [Prog.bind_ret]
    rw [wp_ret]; imodintro
    iapply Hk
    iapply (finish m c _)
    isplitl [Hout]; · unfold res; rw [hs, if_pos rfl]; iexact Hout
    isplitl [Hx]; · iexact Hx
    isplitl [Ht]; · iexact Ht
    isplitl [HO]; · iexact HO
    isplitl [HzB]; · iexact HzB
    isplitl [HzS]; · iexact HzS
    isplitl [HzV] <;> iassumption

/-- What the pipeline asks of the body on device `c`. -/
theorem body_obligation (c : Dev nD) (hag : stay m (peer c) = stay m c) :
    BodyObligation (dats (F := F) m 0 c) (defs₀ (F := F)) Variants.none () Set.univ := fun t => by
  rw [fin_N0 t]
  rw [bigSep_W0, bigSep_W0]
  simp only [owns_whole]
  show bodyPre m c ⊢ wp frame (wpE (defs₀ (F := F)) Variants.none c none) Set.univ prog (fun _ => bodyPost m c)
  iintro H
  iapply (sound_body m c hag fun _ => bodyPost m c)
  isplitl [H]; · iexact H
  iintro H; iexact H

end Cert.Shuffle

end
-- ==== Proof.Deal.lean ====
/-
The launch of the exchange: its ghost element, how the semaphores and that element are dealt to the devices, and the
units the devices owe one another at launch.
-/
module

public import proofs.«01_k».proof.Proof.Protocol

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ghost element -/

/-- The kernel's own three semaphores are of the launch's scope and no staging semaphore. -/
theorem own_facts : Pipeline.OwnSemFacts cfg0.spec osem := by decide

/-- Two cells with one name are one cell. -/
theorem cell_injective : Function.Injective (cell : Dev nD × Fin 4 → GSem nD τ sig) := by
  rintro ⟨c, k⟩ ⟨d, l⟩ h
  have h1 : c = d := congrArg (fun g : GSem nD τ sig => g.1.1) h
  have h2 : csem k = csem l := congrArg Prod.snd h
  have h3 : k = l := by fin_cases k <;> fin_cases l <;> first | rfl | exact absurd h2 (by decide)
  rw [h1, h3]

/-- A token's duty is the one duty of its cell's first round. -/
theorem token_injective : Function.Injective (fun ck : Dev nD × Fin 4 => ((cell ck, 0, ()) : GSem nD τ sig × ℕ × Unit)) :=
  fun _ _ h => cell_injective (congrArg Prod.fst h)

/-- The exchange's cells -/
def allCells : Finset (GSem nD τ sig) := Finset.univ.map ⟨cell, cell_injective⟩
/-- and tokens. -/
def allToks : Finset (GSem nD τ sig × ℕ × Unit) := Finset.univ.map ⟨fun ck => (cell ck, 0, ()), token_injective⟩

/-- The launch's ghost element: the pipeline's and the exchange's. -/
def u₀ : UU := (initOf (Pipeline.cells cfgs cellOf_inj) (Pipeline.launchToks cfgs cellOf_inj), initOf allCells allToks)

variable (stay : Dev nD → Bool) (x : Dev nD → Block F)

/-- What comes with one cell out of the element. -/
def perCell (ck : Dev nD × Fin 4) : sProp 𝕄 :=
  iprop(roundState EX (sched stay x) (cell ck) 0 ∗ atPos EX (cell ck) 0 ∅ 0 ∗ reached EX (cell ck) 0 ∗ dutyTok EX (cell ck) 0 ())
/-- What comes with one device. -/
def perDev (c : Dev nD) : sProp 𝕄 := bigSep Finset.univ fun k : Fin 4 => perCell stay x (c, k)
/-- What each device is to have in the end. -/
def dealt (c : Dev nD) : sProp 𝕄 := iprop(∃ K, records stay x K ∗ spots c ∗ dues c)

/-- A conjunction over four, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The exchange's element splits over the devices. -/
theorem fund_all : BI.own (EX (initOf allCells allToks)) ⊢ (|==> bigSep Finset.univ (perDev stay x) : sProp 𝕄) := by
  have hc (Φ : GSem nD τ sig → sProp 𝕄) : bigSep allCells Φ = bigSep Finset.univ fun ck : Dev nD × Fin 4 => Φ (cell ck) := by
    unfold allCells; rw [bigSep_map]; rfl
  have ht : bigSep allToks (fun t => (dutyTok EX t.1 t.2.1 t.2.2 : sProp 𝕄)) = bigSep Finset.univ fun ck : Dev nD × Fin 4 => dutyTok EX (cell ck) 0 () := by
    unfold allToks; rw [bigSep_map]; rfl
  have hd : (bigSep Finset.univ (perDev stay x) : sProp 𝕄) = bigSep Finset.univ (perCell stay x) := by
    unfold perDev; rw [← bigSep_univ_prod]
  rw [hd]
  unfold perCell
  simp only [bigSep_sep']
  iintro H
  imod (Rounds.fund EX (sched stay x) allCells allToks) $$ H with ⟨Hs, Hr, Ha, Ht⟩
  imodintro
  isplitl [Hs]; · iapply (Entails.of_eq (hc fun g => roundState EX (sched stay x) g 0)); iexact Hs
  isplitl [Ha]; · iapply (Entails.of_eq (hc fun g => atPos EX g 0 ∅ 0)); iexact Ha
  isplitl [Hr]; · iapply (Entails.of_eq (hc fun g => reached EX g 0)); iexact Hr
  iapply (Entails.of_eq ht); iexact Ht

/-! ## The semaphores -/

/-- The kernel's own three: departure, arrival, own copy. -/
theorem own_sems (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (copyCell c) 0) := by
  rw [Pipeline.ownSems0_eq_of_list c osem [0, 1, 2] (by decide) (by decide)]; rfl
/-- The barrier is the one semaphore outside the launch's scope. -/
theorem free_sems (c : Dev nD) : (unscopedSems0 c : sProp 𝕄) = semVal (barCell c) 0 := by
  unfold unscopedSems0; rw [bigSep_eq_bigSepL_of_eq [SemLoc.reg barS] (by decide) (by decide)]; rfl

/-- A cell's invariant is made of its counter at zero and its round state. -/
theorem cell_open (ck : Dev nD × Fin 4) : iprop(semVal (cell ck) 0 ∗ perCell stay x ck)
    ⊢ (|={Set.univ}=> iprop((∃ κ : ℕ, cellInv EX (sched stay x) κ (cell ck)) ∗ atPos EX (cell ck) 0 ∅ 0 ∗ reached EX (cell ck) 0 ∗ dutyTok EX (cell ck) 0 ()) : sProp 𝕄) := by
  unfold perCell
  iintro ⟨Hv, Hs, Hrest⟩
  imod ((Rounds.body_intro EX (sched stay x) (cell ck)).trans inv_alloc) $$ [Hv Hs] with HI
  · isplitl [Hv] <;> iassumption
  imodintro
  isplitl [HI] <;> iassumption

/-- All four of a device's cells at once. -/
theorem dev_open (c : Dev nD) :
    iprop(Pipeline.ownSems0 (Ix := Unit) (Name := ℕ) (U := UU) (Lvl := ℕ) (Val := Elt F) (τ := τ) osem c ∗ unscopedSems0 c ∗ perDev stay x c)
      ⊢ (|={Set.univ}=> bigSep Finset.univ fun k : Fin 4 =>
          iprop((∃ κ : ℕ, cellInv EX (sched stay x) κ (cell (c, k))) ∗ atPos EX (cell (c, k)) 0 ∅ 0 ∗ reached EX (cell (c, k)) 0 ∗ dutyTok EX (cell (c, k)) 0 ()) : sProp 𝕄) := by
  refine .trans ?_ ((bigSep_mono fun k _ => cell_open stay x (c, k)).trans (bigSep_fupd _ _))
  unfold perDev
  rw [bigSep_sep', own_sems, free_sems, four (fun k => semVal (cell (c, k)) 0)]
  iintro ⟨⟨HS, HV, HC⟩, HB, H⟩
  isplitr [H]
  · isplitl [HB]; · iexact HB
    isplitl [HS]; · iexact HS
    isplitl [HV] <;> iassumption
  iexact H

/-! ## Dealing to the devices -/

/-- The tokens of all cells, given to the devices that pay them. -/
theorem deal_toks : (bigSep Finset.univ fun ck : Dev nD × Fin 4 => (dutyTok EX (cell ck) 0 () : sProp 𝕄)) ⊢ bigSep Finset.univ fun c : Dev nD => dues c := by
  unfold dues
  rw [bigSep_univ_prod]
  simp only [four, bigSep_sep']
  rw [bigSep_univ_equiv pairing (fun c : Dev nD => (dutyTok EX (cell (c, 0)) 0 () : sProp 𝕄)),
    bigSep_univ_equiv pairing (fun c : Dev nD => (dutyTok EX (cell (c, 2)) 0 () : sProp 𝕄))]
  exact BI.Entails.refl _

/-- The positions on all cells, given to the cells' devices. -/
theorem deal_spots : (bigSep Finset.univ fun ck : Dev nD × Fin 4 => (atPos EX (cell ck) 0 ∅ 0 : sProp 𝕄)) ⊢ bigSep Finset.univ fun c : Dev nD => spots c := by
  unfold spots
  rw [bigSep_univ_prod]
  simp only [four]
  exact BI.Entails.refl _

/-- What is known to all joins what each holds. -/
theorem join_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cells opened make what every device is to have. -/
theorem gather : (bigSep Finset.univ fun c : Dev nD => bigSep Finset.univ fun k : Fin 4 =>
      iprop((∃ κ : ℕ, cellInv EX (sched stay x) κ (cell (c, k))) ∗ atPos EX (cell (c, k)) 0 ∅ 0 ∗ reached EX (cell (c, k)) 0 ∗ dutyTok EX (cell (c, k)) 0 ()) : sProp 𝕄)
    ⊢ bigSep Finset.univ (dealt stay x) := by
  rw [← bigSep_univ_prod (fun ck : Dev nD × Fin 4 =>
    iprop((∃ κ : ℕ, cellInv EX (sched stay x) κ (cell ck)) ∗ atPos EX (cell ck) 0 ∅ 0 ∗ reached EX (cell ck) 0 ∗ dutyTok EX (cell ck) 0 ()))]
  simp only [bigSep_sep']
  iintro ⟨HI, Ha, #HR, Ht⟩
  ihave HK := (BI.bigSep_exists_pi Finset.univ (fun (ck : Dev nD × Fin 4) (κ : ℕ) => (cellInv EX (sched stay x) κ (cell ck) : sProp 𝕄))) $$ HI
  icases HK with ⟨%K, #HI⟩
  ihave Hs := (deal_spots (F := F)) $$ Ha
  ihave Hd := (deal_toks (F := F)) $$ Ht
  iapply (join_known (R := records stay x K) (Φ := fun c => iprop(spots c ∗ dues c)) fun c _ => by
    unfold dealt
    iintro ⟨HR, H⟩
    iexists K
    isplitl [HR] <;> iassumption)
  isplitr
  · unfold records
    isplitr <;> iassumption
  rw [bigSep_sep']
  isplitl [Hs] <;> iassumption

/-- The semaphores of all devices at zero and the exchange's element make what every device is to have. -/
theorem deal : (bigSep Finset.univ fun c =>
      iprop(Pipeline.ownSems0 (Ix := Unit) (Name := ℕ) (U := UU) (Lvl := ℕ) (Val := Elt F) (τ := τ) osem c ∗ unscopedSems0 c ∗ perDev stay x c) : sProp 𝕄)
    ⊢ |={Set.univ}=> bigSep Finset.univ (dealt stay x) :=
  ((bigSep_mono fun c _ => dev_open stay x c).trans (bigSep_fupd _ _)).trans (BI.fupd_mono (gather stay x))

/-! ## What is owed at launch -/

theorem bar_eq_iff {a b : Dev nD} : Iff (barCell a = barCell b) (a = b) :=
  ⟨fun h => congrArg (fun g : GSem nD τ sig => g.1.1) h, fun h => h ▸ rfl⟩
theorem recv_eq_iff {a b : Dev nD} : Iff (recvCell a = recvCell b) (a = b) :=
  ⟨fun h => congrArg (fun g : GSem nD τ sig => g.1.1) h, fun h => h ▸ rfl⟩
theorem peer_eq_iff {a b : Dev nD} : Iff (a = peer b) (b = peer a) :=
  ⟨fun h => h ▸ (peer_peer b).symm, fun h => h ▸ (peer_peer a).symm⟩

/-- A device's barrier is owed one unit by its partner and nothing by others, -/
theorem owed_bar (d c : Dev nD) : O₀ stay d (barCell c) () = if d = peer c then 1 else 0 := by
  unfold O₀ O₁
  rw [Pi.add_apply, Finsupp.add_apply, tallyAt_ne_cell (fun h => recv_ne_bar (congrArg Prod.snd h).symm), tallyAt_apply, Finsupp.zero_apply, Nat.zero_add]
  exact if_congr ⟨fun h => peer_eq_iff.mp (bar_eq_iff.mp h.1), fun h => ⟨bar_eq_iff.mpr (peer_eq_iff.mp h), rfl⟩⟩ rfl rfl
/-- and its arrival cell what its partner's transfer is worth, if there is one. -/
theorem owed_recv (d c : Dev nD) : O₀ stay d (recvCell c) () = if d = peer c then due stay (peer c) else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · rw [if_pos ⟨recv_eq_iff.mpr (peer_eq_iff.mp h), rfl⟩, if_pos h, h]
  · rw [if_neg fun e => h (peer_eq_iff.mp (recv_eq_iff.mp e.1)), if_neg h]

theorem launch_bar (c : Dev nD) :
    tallyOn (barCell c) (launchCredit (Pipeline.owing (O₀ stay)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar stay d c,
    Finset.sum_ite_eq' Finset.univ (peer c) fun _ => 1, if_pos (Finset.mem_univ _)]
theorem launch_recv (c : Dev nD) :
    tallyOn (recvCell c) (launchCredit (Pipeline.owing (O₀ stay)) 0 (recvCell c))
      = (tallyAt (recvCell c) () (due stay (peer c)) : CellTallies nD τ sig Unit) := by
  unfold tallyAt; refine congrArg _ (Finsupp.ext fun u => ?_); cases u
  rw [Pipeline.launchCredit_owing, Finsupp.single_eq_same, Finset.sum_congr rfl fun d _ => owed_recv stay d c,
    Finset.sum_ite_eq' Finset.univ (peer c) fun _ => due stay (peer c), if_pos (Finset.mem_univ _)]

/-- So each device has at launch the credit for its barrier and its arrival. -/
theorem creds (c : Dev nD) :
    (Pipeline.launchCred (O₀ stay) c : sProp 𝕄) ⊢ iprop(cred (tallyAt (barCell c) () 1) ∗ cred (tallyAt (recvCell c) () (due stay (peer c)))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

end Cert.Shuffle

end
-- ==== Proof.Run.lean ====
/-
The run of the shuffle program on all devices: it ends, every device's result holds its own block or its partner's
as its table says, the arguments are as they were and every semaphore is back at zero.
-/
module

public import proofs.«01_k».proof.Proof.Body
public import proofs.«01_k».proof.Proof.Deal
public import Idealize.ShloMosaic.Lib.Quiescent
public import Idealize.ShloMosaic.Lib.Pipeline.CollectiveSegs

@[expose] public section

noncomputable section

namespace Cert.Shuffle

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every window's array is held outright. -/
theorem share_full (c : Dev nD) (w : Fin cfg0.W) : (dats m 0 c).share w = fullShare := by unfold Dat.share; split <;> rfl

/-- The pipeline may wait on its staging cells at every point. -/
theorem stage_waits (c : Dev nD) : (levAts L lv : sProp 𝕄) ⊢ Pipeline.cellsWaits cfgs (dats m) () 0 c :=
  Pipeline.cellsWaits_intro cfgs (dats m) () 0 c fun w s t =>
    mayWait_low (stay m) c _ (by fin_cases w <;> fin_cases s <;> decide) _ (by
      rcases t with ⟨_ | _, ht⟩
      · exact Or.inl rfl
      · exact Or.inr rfl)

/-- What each device enters the kernel with: its start and its result buffer. -/
def enter (c : Dev nD) : sProp 𝕄 := iprop(start (stay m) (xblk m) c ∗ ∃ f : Block F, outPts c f)
/-- What it keeps for reading at the end: its result and the barrier's counter. -/
def leave (c : Dev nD) : sProp 𝕄 := iprop(outPts c (res (stay m) (xblk m) c) ∗ unscopedSems0 c)

theorem enter_of (c : Dev nD) :
    iprop(Pipeline.unscopedRestP Pipeline.Prefetch.none cfg0.spec c (fun b => m ((c : Thread nD τ).loc b)) ∗ levAts L lv
        ∗ Pipeline.launchCred (O₀ (stay m)) c ∗ prngReg c (ρ c) ∗ dealt (stay m) (xblk m) c)
      ⊢ (|={Set.univ}=> iprop(enter m c ∗ emp) : sProp 𝕄) := by
  rw [Pipeline.unscopedRestP_none, unscopedRest0_eq]
  iintro ⟨Hr, Hlev, Hcr, -, HG⟩
  ihave Hc := (creds (F := F) (stay m) c) $$ Hcr
  icases Hc with ⟨HB, HV⟩
  imodintro
  isplitl
  · unfold enter start
    isplitr [Hr]
    · isplitl [HG]; · unfold dealt; iexact HG
      isplitl [HB]; · iexact HB
      isplitl [HV] <;> iassumption
    · iexists (m ((c : Thread nD τ).loc main_v1))
      rw [outPts_eq]; iexact Hr
  · iempintro

theorem enter_in (c : Dev nD) :
    iprop(enter m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = enter m c from rfl]
  iintro ⟨H, -⟩
  iexact H

theorem leave_out (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, scopedRest0_eq, own_sems]
  unfold Φ₁ leave
  rw [free_sems]
  iintro ⟨Ho, HB, HS, HV, HC⟩
  isplitl [Ho HB]
  · isplitl [Ho] <;> iassumption
  isplitl [HS HV HC]
  · isplitl [HS]; · iexact HS
    isplitl [HV] <;> iassumption
  iempintro

/-- What the end of the run shows of device `c`: its result and its unscoped semaphores. -/
def Shown (c : Dev nD) (s : MemSt nD τ sig (Elt F)) : Prop :=
  s.mem ((c : Thread nD τ).loc main_v1) = res (stay m) (xblk m) c ∧ ∀ sm : SemLoc sig, sm.isScoped .tc = false → s.sem ((c.tc : Thread nD τ), sm) = 0

theorem leave_read (c : Dev nD) (s : Phys nD τ sig (Elt F)) :
    iprop(leave m c ∗ emp ∗ SI s) ⊢ (|={Set.univ}=> iprop(⌜Shown m c s.mem⌝ ∗ SI s) : sProp 𝕄) := by
  unfold leave
  rw [outPts_eq]
  iintro ⟨⟨Ho, Hu⟩, -, HSI⟩
  ihave HS := (pointsTo_read_all ({()} : Finset Unit) (fun _ => (c : Thread nD τ).loc main_v1) (fun _ => res (stay m) (xblk m) c) s) $$ [Ho HSI]
  · isplitl [Ho]; · rw [bigSep_singleton]; iexact Ho
    iexact HSI
  icases HS with ⟨%hm, HSI⟩
  imod (Pipeline.unscopedSems0_read (X := unscopedSems0 c) (c := c) fupd_intro s) $$ [Hu HSI] with ⟨%hz, HSI⟩
  · isplitl [Hu] <;> iassumption
  imodintro
  isplitr
  · ipureintro; exact ⟨hm () (Finset.mem_singleton_self _), hz⟩
  iexact HSI

/-- The launch memory. -/
abbrev s₀ : MemSt nD τ sig (Elt F) := ⟨m, fun _ => 0, ρ⟩

set_option maxRecDepth 8000 in
/-- From any memory in which partners agree on keeping or trading, the program ends on every device; then the arguments
    are as at launch, every result is as `res` says and every semaphore is at zero. -/
theorem run_main (hag : ∀ c, stay m (peer c) = stay m c) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res (stay m) (xblk m) c) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ Variants.none m ρ main
    (hmain := fun _ => rfl)
    (hbody := fun c => body_obligation m c (hag c)) (hne := fun w => by fin_cases w <;> exact Nat.succ_pos _) (harr := arr_whole0) (hstage := stage_whole0)
    (hshare := share_full m) (hdistinct := winFacts0.arr_inj)
    (O₀ := O₀ (stay m)) (howed₀ := fun _ => rfl) (howedN := fun _ => rfl)
    (L := L) (lv := lv) (hL := L_of_ne) (hwaits := stage_waits m)
    (G := perDev (stay m) (xblk m)) (G' := dealt (stay m) (xblk m)) (u₀ := u₀)
    (hu₀ := by
      unfold u₀
      iintro Hu
      ihave H := (ownU_pair _ _) $$ Hu
      icases H with ⟨HP, HX⟩
      imod (fund_all (stay m) (xblk m)) $$ HX with HG
      imodintro
      isplitl [HP] <;> iassumption)
    (hglob := deal (stay m) (xblk m))
    (hA := fun _ _ => rfl) (hpf := fun _ k => k.elim0)
    (X := enter m) (Y := leave m) (Z := fun _ => iprop(emp))
    (hX := enter_of m ρ) (hin := enter_in m) (hout := leave_out m)
    (QY := Shown m) (hY := leave_read m)
    (hQ := fun _ h hs => ⟨fun c => ⟨((h c).1 (0 : Fin 2)).trans ((dats m 0 c).arrAt_in (0 : Fin 2) rfl _),
      ((h c).1 (1 : Fin 2)).trans ((dats m 0 c).arrAt_in (1 : Fin 2) rfl _), (h c).2.2.1⟩, sem_eq_zero hs fun c => (h c).2.2.2⟩)

end Cert.Shuffle

end
-- ==== Proof.Same.lean ====
/-
The kernel and its idealization are one text: their bodies, body tables and programs agree, for any float values.
-/
module

public import proofs.«01_k».proof.Proof.Gen.Kernel
public import proofs.«01_k».proof.Proof.Gen.KernelIdeal

@[expose] public section

noncomputable section

namespace Cert.Shuffle

open Idealize.ShloMosaic
open Cert.Kernel.Gen Cert.KernelIdeal.Gen

variable {F : FTy → Type} [FloatOps F]

/-- The body tables agree: their one label runs the same body. -/
theorem table_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- Hence the definitions agree, -/
theorem defs_same : Cert.Kernel.defs (F := F) = Cert.KernelIdeal.defs (F := F) := by
  unfold Cert.Kernel.defs Cert.KernelIdeal.defs
  exact congrArg (Pipeline.defs _) table_same

/-- and so do the programs. -/
theorem main_same : Cert.Kernel.main (F := F) = Cert.KernelIdeal.main (F := F) := rfl

end Cert.Shuffle

end
-- ==== Proof.Words.lean ====
/-
What the words of `pi` and the preconditions say: where a device reads, what `swaps` and `stays` tell about the two
words, and which devices then keep their block.
-/
module

public import proofs.«01_k».proof.Proof.Body
public import proofs.«01_k».proof.Proof.Gen.Pre_swaps_Kernel
public import proofs.«01_k».proof.Proof.Gen.Pre_stays_Kernel

@[expose] public section

noncomputable section

namespace Cert.Shuffle

open Cert.KernelIdeal Cert.KernelIdeal.Gen

open Idealize.ShloMosaic
open Idealize.ShloMosaic.TcCoe

variable {F : FTy → Type} [FloatOps F]

/-- A table's first place. -/
def at0 : S2.Idx := fun a => ⟨0, by fin_cases a; decide⟩
/-- A table's second place. -/
def at1 : S2.Idx := fun a => ⟨1, by fin_cases a; decide⟩

/-- A device whose last coordinate is 0 finds the table's first word, -/
theorem word_even (c : Dev nD) (t : Table F) (h : c.val % 2 = 0) : word c t = t at0 :=
  congrArg t (funext fun a => Fin.ext (by fin_cases a; revert h; fin_cases c <;> first | (intro _; rfl) | (intro h; exact absurd h (by decide))))
/-- one whose last coordinate is 1 the second. -/
theorem word_odd (c : Dev nD) (t : Table F) (h : c.val % 2 = 1) : word c t = t at1 :=
  congrArg t (funext fun a => Fin.ext (by fin_cases a; revert h; fin_cases c <;> first | (intro _; rfl) | (intro h; exact absurd h (by decide))))

/-- A device's own coordinate is 0, -/
theorem own_even (c : Dev nD) (h : c.val % 2 = 0) : own c = 0#32 := by revert c; decide
/-- or 1. -/
theorem own_odd (c : Dev nD) (h : c.val % 2 = 1) : own c = 1#32 := by revert c; decide

/-- The precondition `swaps`, in terms of the two words. -/
theorem swaps_iff (x : FVec F S1x512x512 .f32) (t : IVec S2 32) (h : Cert.Pre_swaps_Kernel.fn x t = fun _ => 1#1) :
    t at0 ≠ 0#32 ∧ t at1 ≠ 1#32 ∧ (t at1).slt (t at0) = true := by
  have e : IntOp.andi (IntOp.andi (IntOp.cmpi .ne (t at0) 0#32) (IntOp.cmpi .ne (t at1) 1#32)) (IntOp.cmpi .slt (t at1) (t at0)) = 1#1 := by
    have h0 : shapeCast Cert.Pre_swaps_Kernel.S_ ((extractStridedSlice Cert.Pre_swaps_Kernel.S1 ![0] · Cert.Pre_swaps_Kernel.Facts.slices_S2_S1_0) t)
        Cert.Pre_swaps_Kernel.Facts.shapeCasts_S1_S_ (fun a => a.elim0) = t at0 := congrArg t (funext fun a => by fin_cases a; rfl)
    have h1 : shapeCast Cert.Pre_swaps_Kernel.S_ ((extractStridedSlice Cert.Pre_swaps_Kernel.S1 ![1] · Cert.Pre_swaps_Kernel.Facts.slices_S2_S1_1) t)
        Cert.Pre_swaps_Kernel.Facts.shapeCasts_S1_S_ (fun a => a.elim0) = t at1 := congrArg t (funext fun a => by fin_cases a; rfl)
    rw [← h0, ← h1]
    exact congrFun h (fun a => a.elim0)
  have hand : ∀ p q r : Bool, IntOp.andi (IntOp.andi (BitVec.ofBool p) (BitVec.ofBool q)) (BitVec.ofBool r) = 1#1 → p = true ∧ q = true ∧ r = true := by decide
  obtain ⟨a, b, c⟩ := hand _ _ _ e
  exact ⟨bne_iff_ne.mp a, bne_iff_ne.mp b, c⟩

/-- The precondition `stays`, in terms of the two words. -/
theorem stays_iff (x : FVec F S1x512x512 .f32) (t : IVec S2 32) (h : Cert.Pre_stays_Kernel.fn x t = fun _ => 1#1) :
    t at0 = 0#32 ∧ t at1 = 1#32 := by
  have e : IntOp.andi (IntOp.cmpi .eq (t at0) 0#32) (IntOp.cmpi .eq (t at1) 1#32) = 1#1 := by
    have h0 : shapeCast Cert.Pre_stays_Kernel.S_ ((extractStridedSlice Cert.Pre_stays_Kernel.S1 ![0] · Cert.Pre_stays_Kernel.Facts.slices_S2_S1_0) t)
        Cert.Pre_stays_Kernel.Facts.shapeCasts_S1_S_ (fun a => a.elim0) = t at0 := congrArg t (funext fun a => by fin_cases a; rfl)
    have h1 : shapeCast Cert.Pre_stays_Kernel.S_ ((extractStridedSlice Cert.Pre_stays_Kernel.S1 ![1] · Cert.Pre_stays_Kernel.Facts.slices_S2_S1_1) t)
        Cert.Pre_stays_Kernel.Facts.shapeCasts_S1_S_ (fun a => a.elim0) = t at1 := congrArg t (funext fun a => by fin_cases a; rfl)
    rw [← h0, ← h1]
    exact congrFun h (fun a => a.elim0)
  have hand : ∀ p q : Bool, IntOp.andi (BitVec.ofBool p) (BitVec.ofBool q) = 1#1 → p = true ∧ q = true := by decide
  obtain ⟨a, b⟩ := hand _ _ e
  exact ⟨eq_of_beq a, eq_of_beq b⟩

variable (m : (ℓ : Loc nD τ sig) → Buf (Elt F) ℓ)

/-- The staged block is the whole of the device's first argument. -/
theorem xblk_eq (c : Dev nD) : xblk m c = m ((c : Thread nD τ).loc main_arg0) := by
  unfold xblk
  funext i
  exact congrArg (m ((c : Thread nD τ).loc main_arg0)) (funext fun a => Fin.ext (by fin_cases a <;> exact (Nat.zero_add _).trans (Nat.one_mul _)))
/-- The staged table is the whole table. -/
theorem tblk_eq (c : Dev nD) : tblk m c = m ((c : Thread nD τ).loc main_arg1) := by
  unfold tblk
  funext i
  exact congrArg (m ((c : Thread nD τ).loc main_arg1)) (funext fun a => Fin.ext (by fin_cases a <;> exact (Nat.zero_add _).trans (Nat.one_mul _)))

/-- If every device's table swaps, no device keeps its block; -/
theorem stay_of_swaps (h : ∀ c : Dev nD, Cert.Pre_swaps_Kernel.fn (F := F) (m ((c : Thread nD τ).loc main_arg0)) (m ((c : Thread nD τ).loc main_arg1)) = fun _ => 1#1)
    (c : Dev nD) : stay m c = false := by
  obtain ⟨h0, h1, -⟩ := swaps_iff _ _ (h c)
  unfold stay
  rw [tblk_eq]
  rcases Nat.mod_two_eq_zero_or_one c.val with e | e
  · rw [word_even c _ e, own_even c e]; exact decide_eq_false h0
  · rw [word_odd c _ e, own_odd c e]; exact decide_eq_false h1
/-- if every device's table stays, every device does. -/
theorem stay_of_stays (h : ∀ c : Dev nD, Cert.Pre_stays_Kernel.fn (F := F) (m ((c : Thread nD τ).loc main_arg0)) (m ((c : Thread nD τ).loc main_arg1)) = fun _ => 1#1)
    (c : Dev nD) : stay m c = true := by
  obtain ⟨h0, h1⟩ := stays_iff _ _ (h c)
  unfold stay
  rw [tblk_eq]
  rcases Nat.mod_two_eq_zero_or_one c.val with e | e
  · rw [word_even c _ e, own_even c e]; exact decide_eq_true h0
  · rw [word_odd c _ e, own_odd c e]; exact decide_eq_true h1

end Cert.Shuffle

end
-- ==== Proof.Rows.lean ====
/-
The reference's result, row by row: its sort of the two words names the rows, its gather takes them, and on each
device the block of the outcome is the device's own block or its partner's.
-/
module

public import proofs.«01_k».proof.Proof.Words
public import proofs.«01_k».proof.Proof.Gen.ReferenceIdeal.Run
public import Idealize.ShloMosaic.Lib.Layout

@[expose] public section

noncomputable section

namespace Cert.Shuffle

open Idealize.ShloMosaic
open Cert.KernelIdeal (S2)
open Cert.ReferenceIdeal.Gen

/-- The whole array's shape and the shape of the row numbers as the gather takes them. -/
abbrev Whole2 : Shape := ⟨3, ![2, 512, 512]⟩
abbrev Rows2 : Shape := ⟨2, ![2, 1]⟩

/-- The row a result's row comes from: itself when the table keeps the rows, else the other one. -/
def source (keep : Bool) (k : Fin 2) : Fin 2 := if keep then k else 1 - k

/-- Of two positions, the sorted order is the other way round if the second one's element sorts before the first's, -/
theorem sorted_swap (before : Fin 2 → Fin 2 → Bool) (h : before 1 0 = true) (k : Fin 2) : sortedFrom before k = source false k := by
  revert before k; decide
/-- and as it was if not. -/
theorem sorted_keep (before : Fin 2 → Fin 2 → Bool) (h : before 1 0 = false) (k : Fin 2) : sortedFrom before k = source true k := by
  revert before k; decide

/-- The reference's sorted positions of a table `t`: `argsort`. -/
def order (t : IVec S2 32) : IVec S2 32 :=
  (Host.sort2 S2 0 Cert.ReferenceIdeal.comparator_i32_i32_d0 t (iotaInDim S2 32 0)).2

/-- A table whose second word is not below its first sorts to the order it stands in, one whose second word is below to the other. -/
theorem order_eq (t : IVec S2 32) (keep : Bool) (h : (t at1).slt (t at0) = !keep) (j : S2.Idx) :
    order t j = BitVec.ofNat 32 (source keep (j 0)).val := by
  have e : ∀ k : Fin 2, (t (j.along (0 : Fin S2.rank) k)) = t (fun a => ⟨k.val, by fin_cases a; exact k.isLt⟩) := fun k =>
    congrArg t (funext fun a => by fin_cases a; rfl)
  have hb : (fun k k' : Fin 2 => Cert.ReferenceIdeal.comparator_i32_i32_d0
      (t (j.along (0 : Fin S2.rank) k), iotaInDim S2 32 0 (j.along (0 : Fin S2.rank) k))
      (t (j.along (0 : Fin S2.rank) k'), iotaInDim S2 32 0 (j.along (0 : Fin S2.rank) k')) == 1#1) 1 0 = !keep := by
    have hB : ∀ b : Bool, (BitVec.ofBool b == 1#1) = b := by decide
    refine (hB _).trans ?_
    rw [← h]
    exact congrArg₂ BitVec.slt (e 1) (e 0)
  show BitVec.ofNat 32 (sortedFrom _ (j 0)).val = _
  cases keep with
  | false => exact congrArg (fun k : Fin 2 => BitVec.ofNat 32 k.val) (sorted_swap _ hb (j 0))
  | true => exact congrArg (fun k : Fin 2 => BitVec.ofNat 32 k.val) (sorted_keep _ hb (j 0))

variable {F : FTy → Type} [FloatOps F]

/-- The reference's composed result, of the whole array `x` and the table `t`. -/
def refOut (x : Whole2.Idx → F .f32) (t : IVec S2 32) : Whole2.Idx → F .f32 :=
  Host.gather Cert.ReferenceIdeal.gather_S2x512x512_S2x1_S2x512x512_12_0_n_n_0_1_1512512 x
    (broadcastInDim Rows2 ![0] Cert.ReferenceIdeal.Facts₀.bcast_S2_S2x1_0
      (select (cmpi .slt (order t) (broadcastInDim S2 ![] Cert.ReferenceIdeal.Facts₀.bcast_S_S2 (constantI ⟨0, ![]⟩ 32 0#32)))
        (addi (order t) (broadcastInDim S2 ![] Cert.ReferenceIdeal.Facts₀.bcast_S_S2 (constantI ⟨0, ![]⟩ 32 2#32))) (order t)))

/-- An index of the whole array moved to the row it comes from. -/
def moved (keep : Bool) (j : Whole2.Idx) : Whole2.Idx := Function.update j 0 (source keep (j 0))

/-- The reference's result at an index is the whole array at that index's source row. -/
theorem refOut_apply (x : Whole2.Idx → F .f32) (t : IVec S2 32) (keep : Bool) (h : (t at1).slt (t at0) = !keep) (j : Whole2.Idx) :
    refOut x t j = x (moved keep j) := by
  have hw : ∀ k : Fin 2, (select (cmpi .slt (order t) (broadcastInDim S2 ![] Cert.ReferenceIdeal.Facts₀.bcast_S_S2 (constantI ⟨0, ![]⟩ 32 0#32)))
        (addi (order t) (broadcastInDim S2 ![] Cert.ReferenceIdeal.Facts₀.bcast_S_S2 (constantI ⟨0, ![]⟩ 32 2#32))) (order t))
        (fun a => ⟨k.val, by fin_cases a; exact k.isLt⟩) = BitVec.ofNat 32 (source keep k).val := by
    intro k
    show (if IntOp.cmpi .slt (order t _) 0#32 = 1#1 then IntOp.addi (order t _) 2#32 else order t _) = _
    rw [order_eq t keep h]
    clear h
    revert k keep
    decide
  refine congrArg x (funext fun a => Fin.ext ?_)
  fin_cases a
  · show min (BitVec.toInt _).toNat 1 + 0 + 0 = (source keep (j 0)).val
    refine (congrArg (fun w : BitVec 32 => min w.toInt.toNat 1 + 0 + 0) ((congrArg _ (funext fun a => by fin_cases a; rfl)).trans (hw (j 0)))).trans ?_
    clear hw h
    have hk : ∀ (b : Bool) (k : Fin 2), min (BitVec.ofNat 32 (source b k).val).toInt.toNat 1 + 0 + 0 = (source b k).val := by decide
    exact hk keep (j 0)
  · exact (Nat.zero_add _).trans rfl
  · exact (Nat.zero_add _).trans rfl

/-- On every device the block of the reference's result is the device's own block if the rows are kept, else its partner's. -/
theorem block_refOut (x : Whole2.Idx → F .f32) (t : IVec S2 32) (keep : Bool) (h : (t at1).slt (t at0) = !keep)
    (c : Dev Cert.KernelIdeal.nD) :
    Layout.blockN ⟨3, ![1, 512, 512]⟩ ⟨3, ![2, 512, 512]⟩ (Layout.meshBlock [2, 2, 2] ![[2], [], []] c) (refOut x t)
      = Layout.blockN ⟨3, ![1, 512, 512]⟩ ⟨3, ![2, 512, 512]⟩
          (Layout.meshBlock [2, 2, 2] ![[2], [], []] (if keep then c else peer c)) x := by
  funext i
  refine (refOut_apply x t keep h _).trans (congrArg x (funext fun a => Fin.ext ?_))
  have hi : (i 0).val = 0 := by have : (i 0).val < 1 := (i 0).isLt; omega
  fin_cases a
  · show (source keep ⟨(c.val / 1 % 2 * 1 + 0) * 1 + (i 0).val, _⟩).val = ((if keep then c else peer c).val / 1 % 2 * 1 + 0) * 1 + (i 0).val
    have hp : ∀ (b : Bool) (d : Dev Cert.KernelIdeal.nD) (w : (d.val / 1 % 2 * 1 + 0) * 1 + 0 < 2),
        (source b ⟨(d.val / 1 % 2 * 1 + 0) * 1 + 0, w⟩).val = ((if b then d else peer d).val / 1 % 2 * 1 + 0) * 1 + 0 := by decide
    simp only [hi]
    exact hp keep c _
  · rfl
  · rfl

end Cert.Shuffle

end
-- ==== Proof.lean ====
/-
The proof of `Cert.Claim` (Defs.lean): each claim from the kernel's run (Proof/Run.lean), the preconditions read
(Proof/Words.lean) and the reference's result read (Proof/Rows.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Run
public import proofs.«01_k».proof.Proof.Same
public import proofs.«01_k».proof.Proof.Words
public import proofs.«01_k».proof.Proof.Rows
public import Idealize.ShloMosaic.Adequacy
public import Idealize.ShloMosaic.Lib.Quiescent
public import Idealize.ShloMosaic.Init

@[expose] public section

noncomputable section

namespace Cert.Proof

open Idealize.ShloMosaic Idealize.SL.Sem Cert.Shuffle

/-- The kernel's frame under `swaps`: it ends, its arguments are unchanged, its counters are back at zero. -/
theorem frame_swaps : Cert.quiescent_Kernel := by
  intro m ρ h
  rw [defs_same, main_same]
  exact (θ_run Cert.KernelIdeal.defs _ _).mono (fun _ H => ⟨fun c => ⟨(H.1 c).1, (H.1 c).2.1⟩, H.2⟩)
    (run_main (F := Bits) m ρ fun c => (stay_of_swaps m h (peer c)).trans (stay_of_swaps m h c).symm)

/-- The kernel's frame under `stays`. -/
theorem frame_stays : Cert.quiescent_Kernel_pre_stays_Kernel := by
  intro m ρ h
  rw [defs_same, main_same]
  exact (θ_run Cert.KernelIdeal.defs _ _).mono (fun _ H => ⟨fun c => ⟨(H.1 c).1, (H.1 c).2.1⟩, H.2⟩)
    (run_main (F := Bits) m ρ fun c => (stay_of_stays m h (peer c)).trans (stay_of_stays m h c).symm)

/-- The idealized kernel's frame under `swaps`. -/
theorem ideal_frame_swaps : Cert.quiescent_KernelIdeal := fun m ρ h =>
  (θ_run Cert.KernelIdeal.defs _ _).mono (fun _ H => ⟨fun c => ⟨(H.1 c).1, (H.1 c).2.1⟩, H.2⟩)
    (run_main (F := Ideal) m ρ fun c => (stay_of_swaps m h (peer c)).trans (stay_of_swaps m h c).symm)

/-- The idealized kernel's frame under `stays`. -/
theorem ideal_frame_stays : Cert.quiescent_KernelIdeal_pre_stays_Kernel := fun m ρ h =>
  (θ_run Cert.KernelIdeal.defs _ _).mono (fun _ H => ⟨fun c => ⟨(H.1 c).1, (H.1 c).2.1⟩, H.2⟩)
    (run_main (F := Ideal) m ρ fun c => (stay_of_stays m h (peer c)).trans (stay_of_stays m h c).symm)

/-- The reference's frame: a host program that declares no semaphore. -/
theorem ref_frame : Cert.quiescent_ReferenceIdeal := fun m ρ _ =>
  (θ_run Cert.ReferenceIdeal.defs _ _).mono (fun r H => ⟨fun c => (H c).2, sem_eq_zero_of_no_sems (by decide) r.2⟩)
    (Cert.ReferenceIdeal.Value.run (F := Ideal) m ρ)

/-- The value, whichever of the two ways the table has it: every device's result is its block of the reference's. -/
theorem value (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg) (keep : Bool) (x : Whole2.Idx → Ideal .f32) (t : IVec Cert.KernelIdeal.S2 32)
    (hx : m' (((0 : Dev Cert.ReferenceIdeal.nD).tc : Thread Cert.ReferenceIdeal.nD Cert.ReferenceIdeal.τ).loc Cert.ReferenceIdeal.main_arg0) = x)
    (ht : m' (((0 : Dev Cert.ReferenceIdeal.nD).tc : Thread Cert.ReferenceIdeal.nD Cert.ReferenceIdeal.τ).loc Cert.ReferenceIdeal.main_arg1) = t)
    (hs : ∀ c, stay m c = keep) (hk : (t at1).slt (t at0) = !keep)
    (ha : ∀ c : Dev Cert.KernelIdeal.nD, m ((c.tc : Thread Cert.KernelIdeal.nD Cert.KernelIdeal.τ).loc Cert.KernelIdeal.main_arg0)
      = Layout.blockN ⟨3, ![1, 512, 512]⟩ ⟨3, ![2, 512, 512]⟩ (Layout.meshBlock [2, 2, 2] ![[2], [], []] c) x) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[2], [], []] c) (refOut x t)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = refOut x t
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  constructor
  · refine (θ_run Cert.KernelIdeal.defs _ _).mono (fun _ H c => ⟨(H.1 c).2.2.trans ?_, (H.1 c).1, (H.1 c).2.1⟩)
      (run_main (F := Ideal) m g fun c => (hs (peer c)).trans (hs c).symm)
    refine Eq.trans ?_ (block_refOut x t keep hk c).symm
    unfold res
    rw [hs c]
    cases keep with
    | false => exact (xblk_eq m (peer c)).trans (ha (peer c))
    | true => exact (xblk_eq m c).trans (ha c)
  · refine (θ_run Cert.ReferenceIdeal.defs _ _).mono (fun _ H => ⟨(H 0).1.trans ?_, (H 0).2⟩)
      (Cert.ReferenceIdeal.Value.run (F := Ideal) m' g')
    subst hx ht
    rfl

/-- The algebraic claim under `swaps`: the rows change places. -/
theorem value_swaps : Cert.algebraic_KernelIdeal_ReferenceIdeal := fun m g m' g' h ha =>
  ⟨_, value m g m' g' false _ _ rfl rfl (stay_of_swaps m h)
    (by rw [← (ha 0).2]; exact (swaps_iff _ _ (h 0)).2.2) fun c => (ha c).1⟩

/-- The algebraic claim under `stays`: the rows stay. -/
theorem value_stays : Cert.algebraic_KernelIdeal_ReferenceIdeal_pre_stays_Kernel := fun m g m' g' h ha =>
  ⟨_, value m g m' g' true _ _ rfl rfl (stay_of_stays m h)
    (by
      obtain ⟨h0, h1⟩ := stays_iff _ _ (h 0)
      rw [← (ha 0).2]
      refine (congrArg₂ BitVec.slt h1 h0).trans ?_
      decide) fun c => (ha c).1⟩

/-- The certificate's claims together. -/
theorem claim : Cert.Claim :=
  ⟨Cert.Kernel.Gen.facts, Cert.KernelIdeal.Gen.facts, Cert.ReferenceIdeal.Gen.facts, Cert.Pre_swaps_Kernel.Gen.facts,
    Cert.Pre_stays_Kernel.Gen.facts, Cert.Pre_swaps_ReferenceIdeal.Gen.facts, Cert.Pre_stays_ReferenceIdeal.Gen.facts,
    frame_swaps, frame_stays, ideal_frame_swaps, ideal_frame_stays, ref_frame, fun m ρ _ => ref_frame m ρ trivial,
    fun m ρ _ => ref_frame m ρ trivial, trivial, value_swaps, value_stays⟩

end Cert.Proof

end
